-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x7936 : Shape := ⟨3, ![24, 1, 7936]⟩
abbrev S10112x3968 : Shape := ⟨2, ![10112, 3968]⟩
abbrev S10112x62 : Shape := ⟨2, ![10112, 62]⟩
abbrev S24x7936 : Shape := ⟨2, ![24, 7936]⟩
abbrev S62x10112 : Shape := ⟨2, ![62, 10112]⟩
abbrev S24x10112 : Shape := ⟨2, ![24, 10112]⟩
abbrev S256x3968 : Shape := ⟨2, ![256, 3968]⟩
abbrev S62x256 : Shape := ⟨2, ![62, 256]⟩
abbrev S24x256 : Shape := ⟨2, ![24, 256]⟩
abbrev S3968x256 : Shape := ⟨2, ![3968, 256]⟩
abbrev S3968x1x256 : Shape := ⟨3, ![3968, 1, 256]⟩
abbrev S3968x2x256 : Shape := ⟨3, ![3968, 2, 256]⟩
abbrev S7936x256 : Shape := ⟨2, ![7936, 256]⟩
abbrev S62x128x256 : Shape := ⟨3, ![62, 128, 256]⟩
abbrev S62x1x256 : Shape := ⟨3, ![62, 1, 256]⟩
abbrev S24x1x10112 : Shape := ⟨3, ![24, 1, 10112]⟩

abbrev nBuf : Space → Nat
  | .hbm => 11
  | .vmem => 9
  | .smem => 0
  | _ => 0

abbrev bufTy : (tb : Table) → Fin (tcTables nBuf tb) → BufTy
  | .hbm, ⟨0, _⟩ => ⟨S24x1x7936, .bf16⟩
  | .hbm, ⟨1, _⟩ => ⟨S10112x3968, .i8⟩
  | .hbm, ⟨2, _⟩ => ⟨S10112x62, .bf16⟩
  | .hbm, ⟨3, _⟩ => ⟨S10112x62, .i8⟩
  | .hbm, ⟨4, _⟩ => ⟨S24x7936, .bf16⟩
  | .hbm, ⟨5, _⟩ => ⟨S62x10112, .bf16⟩
  | .hbm, ⟨6, _⟩ => ⟨S62x10112, .i8⟩
  | .hbm, ⟨7, _⟩ => ⟨S62x10112, .i32⟩
  | .hbm, ⟨8, _⟩ => ⟨S62x10112, .bf16⟩
  | .hbm, ⟨9, _⟩ => ⟨S24x10112, .bf16⟩
  | .hbm, ⟨10, _⟩ => ⟨S24x1x10112, .bf16⟩
  | .local _ .vmem, ⟨0, _⟩ => ⟨S24x7936, .bf16⟩
  | .local _ .vmem, ⟨1, _⟩ => ⟨S256x3968, .i8⟩
  | .local _ .vmem, ⟨2, _⟩ => ⟨S256x3968, .i8⟩
  | .local _ .vmem, ⟨3, _⟩ => ⟨S62x256, .bf16⟩
  | .local _ .vmem, ⟨4, _⟩ => ⟨S62x256, .bf16⟩
  | .local _ .vmem, ⟨5, _⟩ => ⟨S62x256, .bf16⟩
  | .local _ .vmem, ⟨6, _⟩ => ⟨S62x256, .bf16⟩
  | .local _ .vmem, ⟨7, _⟩ => ⟨S24x256, .bf16⟩
  | .local _ .vmem, ⟨8, _⟩ => ⟨S24x256, .bf16⟩
  | _, _ => ⟨S24x1x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x7936 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3968 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S62x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S62x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24x1x7936 : Shape := ⟨3, ![24, 1, 7936]⟩
abbrev S10112x3968 : Shape := ⟨2, ![10112, 3968]⟩
abbrev S10112x62 : Shape := ⟨2, ![10112, 62]⟩
abbrev S_ : Shape := ⟨0, ![]⟩
abbrev S10112x3968x1 : Shape := ⟨3, ![10112, 3968, 1]⟩
abbrev S10112x3968x2 : Shape := ⟨3, ![10112, 3968, 2]⟩
abbrev S10112x7936 : Shape := ⟨2, ![10112, 7936]⟩
abbrev S10112x62x128 : Shape := ⟨3, ![10112, 62, 128]⟩
abbrev S10112x62x1 : Shape := ⟨3, ![10112, 62, 1]⟩
abbrev S24x1x10112 : Shape := ⟨3, ![24, 1, 10112]⟩

abbrev nBuf : Space → Nat
  | .hbm => 28
  | .vmem => 0
  | .smem => 0
  | _ => 0

abbrev bufTy : (tb : Table) → Fin (tcTables nBuf tb) → BufTy
  | .hbm, ⟨0, _⟩ => ⟨S24x1x7936, .bf16⟩
  | .hbm, ⟨1, _⟩ => ⟨S10112x3968, .i8⟩
  | .hbm, ⟨2, _⟩ => ⟨S10112x62, .bf16⟩
  | .hbm, ⟨3, _⟩ => ⟨S10112x62, .i8⟩
  | .hbm, ⟨4, _⟩ => ⟨S10112x3968, .i32⟩
  | .hbm, ⟨5, _⟩ => ⟨S_, .i32⟩
  | .hbm, ⟨6, _⟩ => ⟨S10112x3968, .i32⟩
  | .hbm, ⟨7, _⟩ => ⟨S10112x3968, .i32⟩
  | .hbm, ⟨8, _⟩ => ⟨S_, .i32⟩
  | .hbm, ⟨9, _⟩ => ⟨S10112x3968, .i32⟩
  | .hbm, ⟨10, _⟩ => ⟨S10112x3968, .i32⟩
  | .hbm, ⟨11, _⟩ => ⟨S10112x3968x1, .i32⟩
  | .hbm, ⟨12, _⟩ => ⟨S10112x3968x1, .i32⟩
  | .hbm, ⟨13, _⟩ => ⟨S10112x3968x2, .i32⟩
  | .hbm, ⟨14, _⟩ => ⟨S10112x7936, .i32⟩
  | .hbm, ⟨15, _⟩ => ⟨S10112x62x128, .i32⟩
  | .hbm, ⟨16, _⟩ => ⟨S10112x62x128, .bf16⟩
  | .hbm, ⟨17, _⟩ => ⟨S10112x62, .i32⟩
  | .hbm, ⟨18, _⟩ => ⟨S10112x62, .bf16⟩
  | .hbm, ⟨19, _⟩ => ⟨S10112x62x1, .bf16⟩
  | .hbm, ⟨20, _⟩ => ⟨S10112x62x1, .bf16⟩
  | .hbm, ⟨21, _⟩ => ⟨S10112x62x128, .bf16⟩
  | .hbm, ⟨22, _⟩ => ⟨S10112x62x128, .bf16⟩
  | .hbm, ⟨23, _⟩ => ⟨S10112x62x128, .bf16⟩
  | .hbm, ⟨24, _⟩ => ⟨S10112x62x128, .bf16⟩
  | .hbm, ⟨25, _⟩ => ⟨S10112x7936, .bf16⟩
  | .hbm, ⟨26, _⟩ => ⟨S24x1x10112, .f32⟩
  | .hbm, ⟨27, _⟩ => ⟨S24x1x10112, .bf16⟩
  | _, _ => ⟨S24x1x7936, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.KBody.lean ====
/- The frame of the kernel at any float values: what the body does to its staging buffers, and that every run of the
   program ends with the arguments unchanged and every semaphore counter at zero.

   The last of the forty blocks overhangs the arrays by half: there the staging buffers of the weights, the scales and
   the zero points hold the block on the part inside the array and words nothing names outside it. The frame does not
   read the result, so the result's window is forgotten: its buffer is taken and given back at any contents. -/
module

public import proofs.«01_k».proof.Proof.Gen.Kernel.Skeleton
public import proofs.«01_k».proof.Proof.Gen.Kernel.Frame

@[expose] public section

set_option maxRecDepth 16384

noncomputable section

namespace Cert.KBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body on whole staging memrefs runs to its end and leaves the four input buffers as they were; the
    result's buffer ends at some contents. -/
theorem sound_kernel (c : Dev nD) (E : Set ℕ) (i : grid0.Coords) (arg1 : Memref sig .tc .vmem S24x7936 .bf16) (harg1 : arg1.IsWhole) (arg2 : Memref sig .tc .vmem S256x3968 .i8) (harg2 : arg2.IsWhole) (arg3 : Memref sig .tc .vmem S62x256 .bf16) (harg3 : arg3.IsWhole) (arg4 : Memref sig .tc .vmem S62x256 .bf16) (harg4 : arg4.IsWhole) (arg5 : Memref sig .tc .vmem S24x256 .bf16) (harg5 : arg5.IsWhole)
    (x0 : Vec F S24x7936 .bf16) (x1 : Vec F S256x3968 .i8) (x2 : Vec F S62x256 .bf16) (x3 : Vec F S62x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; iexists _; isplitr
  swap; · iexact H4
  ipureintro; rfl

/-- What the proof data puts in a staging buffer outside the array: some word. No obligation reads it. -/
def pad {α : Type} [Nonempty α] {s : Shape} : s.Idx → α := fun _ => Classical.choice inferInstance

/-- The proof data: the arrays as the region finds them; after the body each input's buffer at its block, filled out
    past the array's end; the result's not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) pad (iblk m c 1 t)
    | ⟨2, _⟩ => win0_2.fill (grid0.coords t) pad (iblk m c 2 t)
    | ⟨3, _⟩ => win0_3.fill (grid0.coords t) pad (iblk m c 3 t)
    | ⟨4, _⟩ => pad
  Φ _ := Pipeline.ΦA spec0 c
  q _ := fullShare
  owed _ := 0

/-- The window whose contents are forgotten: the result's. -/
def fgt : Fin cfg0.W → Bool := fun w => match w with
  | ⟨0, _⟩ => false | ⟨1, _⟩ => false | ⟨2, _⟩ => false | ⟨3, _⟩ => false | ⟨4, _⟩ => true

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = win0_1.fill (grid0.coords t) pad (iblk m c 1 t) := by dsimp only [dats]
theorem after_2 (c : Dev nD) (t : Fin cfg0.N) : (dats m 0 c).after 2 t = win0_2.fill (grid0.coords t) pad (iblk m c 2 t) := by dsimp only [dats]
theorem after_3 (c : Dev nD) (t : Fin cfg0.N) : (dats m 0 c).after 3 t = win0_3.fill (grid0.coords t) pad (iblk m c 3 t) := by dsimp only [dats]

/-- The activations' buffer holds the whole array at every point. -/
theorem before_0 (c : Dev nD) (t : Fin cfg0.N) (d) : (dats m 0 c).before 0 t d = iblk m c 0 t :=
  before0_0_of m (dats m 0 c) (A_eq m c 0) (after_0 m c) t d
/-- The other three inputs are fetched at every point: the block inside the array, anything outside it. -/
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) :
    (dats m 0 c).before 3 t d = win0_3.fill (grid0.coords t) d (iblk m c 3 t) := by
  unfold Dat.before; rw [if_pos (fetch0_3 t)]; rfl

/-- The body table's row at a point is the body on the point's staging buffers. -/
theorem defs₀_row (t : Fin cfg0.N) :
    defs₀ (F := F) .tc cfg0.body (cfg0.bodyArgs t (cfg0.slots t)) = bodyAt0 t := by
  unfold defs₀; rw [Defs.onTc_tc]

/-- The body's obligation at every point, the result's buffer forgotten. -/
theorem body_obligation (c : Dev nD) : BodyObligationLoose (dats (F := F) m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (sound_kernel (F := F) c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, ⟨%d5, H4⟩⟩
  isplitl [HΦ]; · iexact HΦ
  isplitl [Ho]; · iexact Ho
  isplitl [H0]
  · change _ ⊢ owns (c : Thread nD τ) (st0_0 t) fullShare ((dats m 0 c).after 0 t)
    rw [after_0]; try iexact H0
  isplitl [H1]
  · iexists d1
    change _ ⊢ owns (c : Thread nD τ) (st0_1 t) fullShare (win0_1.fill (grid0.coords t) d1 (win0_1.cut (grid0.coords t) ((dats m 0 c).after 1 t)))
    rw [after_1, Window.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after_2, Window.cut_fill]; try iexact H2
  isplitl [H3]
  · iexists d3
    change _ ⊢ owns (c : Thread nD τ) (st0_3 t) fullShare (win0_3.fill (grid0.coords t) d3 (win0_3.cut (grid0.coords t) ((dats m 0 c).after 3 t)))
    rw [after_3, Window.cut_fill]; try iexact H3
  iexists d5; iexact H4

/-- The host operation after the kernel writes the returned array only. -/
theorem sfx_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.nullary_writes, StableHlo.unary_writes, StableHlo.binary_writes, StableHlo.reshape_writes, Finset.mem_singleton] at hb
  rw [Finset.mem_singleton]
  by_contra hne
  exact StableHlo.devRef_ne_of_ne hne hb

set_option backward.isDefEq.respectTransparency.types false in
set_option maxHeartbeats 800000 in
/-- The frame: every run ends with the four arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget cfgs (dats m) (0 : Fin 1) launch0 defs₀ Variants.none fgt {main_v6} m ρ main
    (hbody := body_obligation m) (hshare := fun c => (dats m 0 c).share_full fun _ => rfl)
    (howed := fun _ _ => rfl) (V₀ := V0 m) (opss := [hostOps1]) (hsub := sfx_sub) (hfresh := sfx_fresh)
    (hkeep := sfx_keeps) (hT := sfx_writes) (hmain := hmain m Variants.none) (hA := A_eq m) (hΦ := fun _ _ => rfl)
    (Q' := _) (hQ' := fun r h => ⟨fun c =>
      ⟨((h.1 c).2 main_arg0 (Finset.mem_sdiff.mpr ⟨Pipeline.mem_restRefs_of main_arg0 (by decide) (by decide), by decide⟩)).trans (V_main_arg0 m c),
       (h.1.arr_in c 1 rfl).trans ((A_eq m c 1).trans (V_main_arg1 m c)),
       ((h.1 c).2 main_arg2 (Finset.mem_sdiff.mpr ⟨Pipeline.mem_restRefs_of main_arg2 (by decide) (by decide), by decide⟩)).trans (V_main_arg2 m c),
       ((h.1 c).2 main_arg3 (Finset.mem_sdiff.mpr ⟨Pipeline.mem_restRefs_of main_arg3 (by decide) (by decide), by decide⟩)).trans (V_main_arg3 m c)⟩, h.2⟩)

end Cert.KBody

end
-- ==== Proof.Spec.lean ====
/- What both programs compute, as mathematics: a matrix product with weights stored as two four-bit codes to a byte,
   each group of 128 codes with its own zero point and scale. The codes of a byte as the two programs take them. -/
module

public import Idealize.ShloMosaic.Lib.ValueIdx
public import Idealize.ShloMosaic.Lib.ValueLayout
public import Idealize.ShloMosaic.Lib.Pipeline.Value
public import Idealize.ShloMosaic.Lib.MatmulPlain

@[expose] public section

noncomputable section

open scoped BigOperators

namespace Cert.Spec

open Idealize.ShloMosaic Idealize.ShloMosaic.ValueIdx

/-- Code `p` of a byte as a number: its low four bits at `p = 0`, its high four bits otherwise. -/
def code (w : BitVec 8) (p : Nat) : EReal := (((if p = 0 then w.toNat % 16 else w.toNat / 16 : Nat) : ℝ) : EReal)

/-- A byte read as a non-negative number. -/
def byte (w : BitVec 8) : EReal := ((w.toNat : ℝ) : EReal)

/-- The byte that holds code `k` of a row. -/
def half (k : Fin 7936) : Fin 3968 := ⟨k.val / 2, by omega⟩
/-- The group of code `k` of a row. -/
def grp (k : Fin 7936) : Fin 62 := ⟨k.val / 128, by omega⟩

/-- The weight a code stands for: the code less the zero point, times the scale. -/
def weight (w : BitVec 8) (p : Nat) (z s : EReal) : EReal := (code w p - z) * s

/-- Result `(b, o)`: the activations of row `b` times the weights of row `o`, summed. -/
def out (x : Fin 24 → Fin 7936 → EReal) (w : Fin 10112 → Fin 3968 → BitVec 8) (s : Fin 10112 → Fin 62 → EReal)
    (z : Fin 10112 → Fin 62 → BitVec 8) (b : Fin 24) (o : Fin 10112) : EReal :=
  ∑ k : Fin 7936, x b k * weight (w o (half k)) (k.val % 2) (byte (z o (grp k))) (s o (grp k))

/-- The kernel's low code: the byte widened, masked, cut to four bits, read unsigned. -/
theorem kernel_lo : ∀ w : BitVec 8, ((IntOp.andi (w.setWidth 32) 15#32).setWidth 4).toNat = w.toNat % 16 := by decide +kernel
/-- The kernel's high code: the byte widened, shifted right by four, cut to four bits, read unsigned. -/
theorem kernel_hi : ∀ w : BitVec 8, ((IntOp.shrsi .vector (w.setWidth 32) 4#32).setWidth 4).toNat = w.toNat / 16 := by decide +kernel
/-- The reference's low code: the byte widened and masked, read signed. -/
theorem host_lo : ∀ w : BitVec 8, (IntOp.andi (w.setWidth 32) 15#32).toInt = ((w.toNat % 16 : Nat) : Int) := by decide +kernel
/-- The reference's high code: the byte widened and shifted right by four, read signed. -/
theorem host_hi : ∀ w : BitVec 8, (IntOp.shrsi .host (w.setWidth 32) 4#32).toInt = ((w.toNat / 16 : Nat) : Int) := by decide +kernel
/-- A byte widened and read signed is the byte. -/
theorem wide_byte : ∀ w : BitVec 8, (w.setWidth 32).toInt = ((w.toNat : Nat) : Int) := by decide +kernel

/-- The zero point's byte as a number, in either program. -/
theorem sitofp_wide {s : Shape} {φ : FTy} (z : IVec s 8) (h : 8 < 32) (i : s.Idx) :
    (sitofp φ (extui 32 z h) : FVec Ideal s φ) i = byte (z i) := by
  show ((((z i).setWidth 32).toInt : ℝ) : EReal) = byte (z i)
  unfold byte
  rw [wide_byte (z i)]
  norm_cast

end Cert.Spec

end
-- ==== Proof.KIValue.lean ====
/- What the kernel's body computes from the blocks it loads, entry by entry, over the extended reals. -/
module

public import proofs.«01_k».proof.Proof.Spec
public import proofs.«01_k».proof.Proof.KBody
public import proofs.«01_k».proof.Proof.Gen.KernelIdeal.Skeleton

@[expose] public section

noncomputable section

open scoped BigOperators

namespace Cert.KIValue

open Cert.KernelIdeal Cert.KernelIdeal.Gen Cert.Spec
open Idealize.ShloMosaic Idealize.ShloMosaic.ValueIdx

/-- The row of the codes that the pair `(q, p)` — code `p` of byte `q` — is. -/
theorem unpair_apply {α : Type} (x : S3968x2x256.Idx → α) (h : S3968x2x256.ShapeCasts S7936x256) (k : Fin 7936) (j : Fin 256) :
    shapeCast S7936x256 x h (ix2 k j) = x (ix3 (half k) (⟨k.val % 2, Nat.mod_lt _ (by decide)⟩ : Fin 2) j) :=
  shapeCast_apply x h _ _ (by
    rw [Shape.rowMajor_val_three, Shape.rowMajor_val_two]
    show (k.val / 2 * 2 + k.val % 2) * 256 + j.val = k.val * 256 + j.val
    rw [Nat.div_add_mod'])

/-- The codes laid out in groups: code `l` of group `g`. -/
theorem group_apply {α : Type} (x : S7936x256.Idx → α) (h : S7936x256.ShapeCasts S62x128x256) (k : Fin 7936) (j : Fin 256) :
    shapeCast S62x128x256 x h (ix3 (grp k) (⟨k.val % 128, Nat.mod_lt _ (by decide)⟩ : Fin 128) j) = x (ix2 k j) :=
  shapeCast_apply x h _ _ (by
    rw [Shape.rowMajor_val_three, Shape.rowMajor_val_two]
    show k.val * 256 + j.val = (k.val / 128 * 128 + k.val % 128) * 256 + j.val
    rw [Nat.div_add_mod'])

/-- The grouped codes laid back in one row. -/
theorem ungroup_apply {α : Type} (x : S62x128x256.Idx → α) (h : S62x128x256.ShapeCasts S7936x256) (k : Fin 7936) (j : Fin 256) :
    shapeCast S7936x256 x h (ix2 k j) = x (ix3 (grp k) (⟨k.val % 128, Nat.mod_lt _ (by decide)⟩ : Fin 128) j) :=
  shapeCast_apply x h _ _ (by
    rw [Shape.rowMajor_val_three, Shape.rowMajor_val_two]
    show (k.val / 128 * 128 + k.val % 128) * 256 + j.val = k.val * 256 + j.val
    rw [Nat.div_add_mod'])

/-- A unit axis put in the middle. -/
theorem mid_apply {α : Type} {a b : Nat} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One row of zero points or scales laid along its group of 128 codes. -/
theorem spread_apply {α : Type} (x : S62x1x256.Idx → α) (h : S62x1x256.Broadcasts S62x128x256) (g : Fin 62) (l : Fin 128) (j : Fin 256) :
    broadcastTo S62x128x256 x h (ix3 g l j) = x (ix3 g (0 : Fin 1) j) :=
  broadcastTo_apply x h _ _ (fun a => match a with | ⟨0, _⟩ => rfl | ⟨1, _⟩ => rfl | ⟨2, _⟩ => rfl)

/-- A shape cast to the same shape changes nothing. -/
theorem same_apply {α : Type} {s : Shape} (x : s.Idx → α) (h : s.ShapeCasts s) (j : s.Idx) : shapeCast s x h j = x j :=
  shapeCast_apply x h _ _ rfl

/-- The two codes of every byte, interleaved. -/
theorem interleave_apply {α : Type} (x y : S3968x1x256.Idx → α) (h : Shape.Concatenates [S3968x1x256, S3968x1x256] S3968x2x256 1)
    (q : Fin 3968) (p : Fin 2) (j : Fin 256) :
    concatenate S3968x2x256 1 [⟨S3968x1x256, x⟩, ⟨S3968x1x256, y⟩] h (ix3 q p j)
      = if p.val = 0 then x (ix3 q (0 : Fin 1) j) else y (ix3 q (0 : Fin 1) j) := by
  split
  · next hp =>
    exact concatenate_pair_apply_left 1 x y h _ rfl _ (fun b => match b with
      | ⟨0, _⟩ => rfl | ⟨1, _⟩ => hp.symm | ⟨2, _⟩ => rfl)
  · next hp =>
    refine concatenate_pair_apply_right 1 x y h _ rfl rfl _ (fun b hb => match b, hb with
      | ⟨0, _⟩, _ => rfl | ⟨1, _⟩, hb => absurd rfl hb | ⟨2, _⟩, _ => rfl) ?_
    show 0 + 1 = p.val
    omega

/-- The block of codes read as numbers: entry `(k, j)` is code `k mod 2` of byte `k / 2` of the block's row `j`. -/
theorem codes_apply (w : IVec S256x3968 8) (k : Fin 7936) (j : Fin 256)
    (ht : S256x3968.Transposes [1, 0] S3968x256) (h1 h2 : S3968x256.ShapeCasts S3968x1x256)
    (hc : Shape.Concatenates [S3968x1x256, S3968x1x256] S3968x2x256 1) (h3 : S3968x2x256.ShapeCasts S7936x256) (e : 8 < 32) (e' : 4 < 32) :
    (uitofp .bf16 (trunci 4 (shapeCast S7936x256 (concatenate S3968x2x256 1
      [⟨S3968x1x256, shapeCast S3968x1x256 (andi (extui 32 (transpose S3968x256 [1, 0] w ht) e) (broadcast S3968x256 15#32)) h1⟩,
       ⟨S3968x1x256, shapeCast S3968x1x256 (shrsi (extui 32 (transpose S3968x256 [1, 0] w ht) e) (broadcast S3968x256 4#32)) h2⟩] hc) h3) e')
      : FVec Ideal S7936x256 .bf16) (ix2 k j) = code (w (ix2 j (half k))) (k.val % 2) := by
  show ((((shapeCast S7936x256 _ h3 (ix2 k j) : BitVec 32).setWidth 4).toNat : ℝ) : EReal) = _
  rw [unpair_apply, interleave_apply]
  unfold code
  congr 2
  split
  · rw [mid_apply]
    show ((IntOp.andi ((transpose S3968x256 [1, 0] w ht (ix2 (half k) j)).setWidth 32) 15#32).setWidth 4).toNat = _
    rw [transpose_ix2_apply, kernel_lo]
  · rw [mid_apply]
    show ((IntOp.shrsi .vector ((transpose S3968x256 [1, 0] w ht (ix2 (half k) j)).setWidth 32) 4#32).setWidth 4).toNat = _
    rw [transpose_ix2_apply, kernel_hi]

/-- THE BODY'S RESULT: entry `(b, j)` is the sum over the 7936 codes of row `j` of the weight block of the activation
    times the weight. Column `j` reads column `j` of the scales and zero points and row `j` of the weights only. -/
theorem pay_apply (w : IVec S256x3968 8) (z s : FVec Ideal S62x256 .bf16) (x : FVec Ideal S24x7936 .bf16) (b : Fin 24) (j : Fin 256) :
    k0_pay1 (F := Ideal) w z s x (ix2 b j)
      = ∑ k : Fin 7936, x (ix2 b k) * weight (w (ix2 j (half k))) (k.val % 2) (z (ix2 (grp k) j)) (s (ix2 (grp k) j)) := by
  unfold k0_pay1
  dsimp only
  rw [truncf_apply]
  refine (Ideal.matmul_plain_apply (M := 24) (K := 7936) (N := 256) none _ _ _ b j).trans ?_
  rw [constant_apply, show Ideal.ofBits .f32 0x00000000#32 = 0 from Ideal.ofBits_zero_f32, zero_add]
  refine Finset.sum_congr rfl fun k _ => ?_
  rw [same_apply, ungroup_apply, mulf_apply, subf_apply, group_apply, codes_apply, spread_apply, spread_apply, mid_apply, mid_apply,
    same_apply, same_apply]
  rfl

end Cert.KIValue

end
-- ==== Proof.KIBody.lean ====
/- The idealized kernel over the extended reals: what the body leaves in its staging buffers, and the whole run.

   The last of the forty blocks overhangs the arrays by half. There the staging buffers of the weights, the scales and
   the zero points hold the block on the part inside the array and words nothing names outside it. Column `j` of the
   product reads row `j` of the weights and column `j` of the scales and the zero points, so the columns of the result
   that lie inside the array do not depend on those words; they are all that is written back. -/
module

public import proofs.«01_k».proof.Proof.KIValue
public import proofs.«01_k».proof.Proof.Gen.KernelIdeal.Frame
public import Idealize.ShloMosaic.Lib.Pipeline.ValueKit.Basic

@[expose] public section

set_option maxRecDepth 16384

noncomputable section

namespace Cert.KIBody

open Cert.KernelIdeal Cert.KernelIdeal.Gen Cert.Spec Cert.KIValue
open Idealize.ShloMosaic Idealize.ShloMosaic.TcCoe Idealize.ShloMosaic.Tactic Idealize.ShloMosaic.ValueIdx
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat RDat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The rectangle of the result's buffer that the body stores through: the whole buffer. -/
abbrev whole : Rect S24x256 := Rect.unit (s := S24x256) ![0, 0] S24x256.size inb_S24x256_S24x256_0_0

/-- A store through it covers the buffer. -/
theorem cover (p0 : Vec Ideal S24x256 .bf16) (y : S24x256.Idx) :
    ∃ pc ∈ ([⟨whole, p0⟩] : List (View.Piece (Elt Ideal) S24x256 .bf16)), y ∈ pc.1.set :=
  View.cover_of_tiled [⟨whole, p0⟩] S24x256.size (by rfl) y

set_option maxHeartbeats 1000000 in
/-- The kernel body on whole staging memrefs runs to its end and leaves the four input buffers as they were; the
    result's buffer ends at the block's product. -/
theorem sound_kernel (c : Dev nD) (E : Set ℕ) (i : grid0.Coords) (arg1 : Memref sig .tc .vmem S24x7936 .bf16) (harg1 : arg1.IsWhole) (arg2 : Memref sig .tc .vmem S256x3968 .i8) (harg2 : arg2.IsWhole) (arg3 : Memref sig .tc .vmem S62x256 .bf16) (harg3 : arg3.IsWhole) (arg4 : Memref sig .tc .vmem S62x256 .bf16) (harg4 : arg4.IsWhole) (arg5 : Memref sig .tc .vmem S24x256 .bf16) (harg5 : arg5.IsWhole)
    (x0 : Vec Ideal S24x7936 .bf16) (x1 : Vec Ideal S256x3968 .i8) (x2 : Vec Ideal S62x256 .bf16) (x3 : Vec Ideal S62x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x1 x3 x2 x0)) -∗ K ⟨⟩))
      ⊢ wp frame (wpE (defs₀ (F := Ideal)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover _)).trans ?_
  refine (View.canon_cons_unit_lit (S := S24x256) inb_S24x256_S24x256_0_0 _ [] (by decide)).trans ?_
  simp only [View.readAt_eq_ld]
  rw [View.ld_unit_lit (S := S256x3968) inb_S256x3968_S256x3968_0_0 _ (by decide), View.ld_unit_lit (S := S62x256) inb_S62x256_S62x256_0_0 _ (by decide),
    View.ld_unit_lit (S := S62x256) inb_S62x256_S62x256_0_0 _ (by decide), View.ld_unit_lit (S := S24x7936) inb_S24x7936_S24x7936_0_0 _ (by decide)]

/-- What the proof data puts in a staging buffer outside the array: some word. No obligation reads it. -/
def pad {α : Type} [Nonempty α] {s : Shape} : s.Idx → α := fun _ => Classical.choice inferInstance

/-- The weights', the scales' and the zero points' blocks filled out past the arrays' end with `d`. -/
abbrev wblk (c : Dev nD) (t : Fin cfg0.N) (d : S256x3968.Idx → BitVec 8) : Vec Ideal S256x3968 .i8 := win0_1.fill (grid0.coords t) d (iblk m c 1 t)
abbrev sblk (c : Dev nD) (t : Fin cfg0.N) (d : S62x256.Idx → EReal) : Vec Ideal S62x256 .bf16 := win0_2.fill (grid0.coords t) d (iblk m c 2 t)
abbrev zblk (c : Dev nD) (t : Fin cfg0.N) (d : S62x256.Idx → EReal) : Vec Ideal S62x256 .bf16 := win0_3.fill (grid0.coords t) d (iblk m c 3 t)

/-- The activations, which every block reads whole. -/
abbrev xblk (c : Dev nD) (t : Fin cfg0.N) : FVec Ideal S24x7936 .bf16 := iblk m c 0 t

/-- The block's product, from the blocks filled out past the arrays' end. -/
abbrev prod (c : Dev nD) (t : Fin cfg0.N) (d1 : S256x3968.Idx → BitVec 8) (d2 d3 : S62x256.Idx → EReal) : Vec Ideal S24x256 .bf16 :=
  k0_pay1 (F := Ideal) (wblk m c t d1) (zblk m c t d3) (sblk m c t d2) (xblk m c t)

/-- One entry of the block's product. -/
theorem prod_apply (c : Dev nD) (t : Fin cfg0.N) (d1 : S256x3968.Idx → BitVec 8) (d2 d3 : S62x256.Idx → EReal) (b : Fin 24) (j : Fin 256) :
    prod m c t d1 d2 d3 (ix2 b j) = ∑ k : Fin 7936, xblk m c t (ix2 b k)
      * weight (wblk m c t d1 (ix2 j (half k))) (k.val % 2) (zblk m c t d3 (ix2 (grp k) j)) (sblk m c t d2 (ix2 (grp k) j)) :=
  pay_apply _ _ _ _ b j

/-- Contents filled over one block agree wherever the block lies inside the array. -/
theorem fill_congr {α : Type} (w : Window sig grid0) (i : grid0.Coords) (d d' : w.block.Idx → α) (g : (w.xblock i).Idx → α)
    {j : w.block.Idx} (h : ∀ a, (j a).val < w.xsize i a) : w.fill i d g j = w.fill i d' g j := by
  unfold Window.fill; rw [dif_pos ((w.moved_iff i j).mpr h), dif_pos ((w.moved_iff i j).mpr h)]

/-- The part of the product inside the array does not depend on what lies past the arrays' end. -/
theorem cut_prod (c : Dev nD) (t : Fin cfg0.N) (d1 d1' : S256x3968.Idx → BitVec 8) (d2 d2' d3 d3' : S62x256.Idx → EReal) :
    win0_4.cut (grid0.coords t) (prod m c t d1 d2 d3) = win0_4.cut (grid0.coords t) (prod m c t d1' d2' d3') := by
  funext y
  show prod m c t d1 d2 d3 (win0_4.xinj (grid0.coords t) y) = prod m c t d1' d2' d3' (win0_4.xinj (grid0.coords t) y)
  have hy : (y 1).val < win0_4.xsize (grid0.coords t) 1 := (y 1).isLt
  obtain ⟨b, j, e⟩ : ∃ (b : Fin 24) (j : Fin 256), win0_4.xinj (grid0.coords t) y = ix2 b j :=
    ⟨_, _, eq_ix2 _⟩
  have hj : j.val < win0_4.xsize (grid0.coords t) 1 := by
    have : (win0_4.xinj (grid0.coords t) y 1).val = j.val := by rw [e]; rfl
    exact this ▸ hy
  rw [e, prod_apply, prod_apply]
  refine Finset.sum_congr rfl fun k _ => ?_
  have e1 : wblk m c t d1 (ix2 j (half k)) = wblk m c t d1' (ix2 j (half k)) :=
    fill_congr win0_1 _ _ _ _ (fun a => match a with | ⟨0, _⟩ => hj | ⟨1, _⟩ => (half k).isLt)
  have e2 : sblk m c t d2 (ix2 (grp k) j) = sblk m c t d2' (ix2 (grp k) j) :=
    fill_congr win0_2 _ _ _ _ (fun a => match a with | ⟨0, _⟩ => (grp k).isLt | ⟨1, _⟩ => hj)
  have e3 : zblk m c t d3 (ix2 (grp k) j) = zblk m c t d3' (ix2 (grp k) j) :=
    fill_congr win0_3 _ _ _ _ (fun a => match a with | ⟨0, _⟩ => (grp k).isLt | ⟨1, _⟩ => hj)
  rw [e1, e2, e3]

/-- The proof data: the arrays as the region finds them; after the body each input's buffer at its block, filled out
    past the array's end, and the result's at the product of those. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) pad (iblk m c 1 t)
    | ⟨2, _⟩ => win0_2.fill (grid0.coords t) pad (iblk m c 2 t)
    | ⟨3, _⟩ => win0_3.fill (grid0.coords t) pad (iblk m c 3 t)
    | ⟨4, _⟩ => prod m c t pad pad pad
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = win0_1.fill (grid0.coords t) pad (iblk m c 1 t) := by dsimp only [dats]
theorem after_2 (c : Dev nD) (t : Fin cfg0.N) : (dats m 0 c).after 2 t = win0_2.fill (grid0.coords t) pad (iblk m c 2 t) := by dsimp only [dats]
theorem after_3 (c : Dev nD) (t : Fin cfg0.N) : (dats m 0 c).after 3 t = win0_3.fill (grid0.coords t) pad (iblk m c 3 t) := by dsimp only [dats]

theorem after_4 (c : Dev nD) (t : Fin cfg0.N) : (dats m 0 c).after 4 t = prod m c t pad pad pad := by dsimp only [dats]

/-- The activations' buffer holds the whole array at every point. -/
theorem before_0 (c : Dev nD) (t : Fin cfg0.N) (d) : (dats m 0 c).before 0 t d = iblk m c 0 t :=
  before0_0_of m (dats m 0 c) (A_eq m c 0) (after_0 m c) t d
/-- The other three inputs are fetched at every point: the block inside the array, anything outside it. -/
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_3 (c : Dev nD) (t : Fin cfg0.N) (d) :
    (dats m 0 c).before 3 t d = win0_3.fill (grid0.coords t) d (iblk m c 3 t) := by
  unfold Dat.before; rw [if_pos (fetch0_3 t)]; rfl

/-- The body table's row at a point is the body on the point's staging buffers. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligationLoose (dats m 0 c) (defs₀ (F := Ideal)) Variants.none () Set.univ := fun t => by
  rw [bigSep_W0, bigSep_W0, defs₀_row]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (sound_kernel c Set.univ (grid0.coords t) _ _ _ _ _ _ _ _ _ _ (iblk m c 0 t)
    (win0_1.fill (grid0.coords t) d1 (iblk m c 1 t)) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · change _ ⊢ owns (c : Thread nD τ) (st0_0 t) fullShare ((dats m 0 c).after 0 t)
    rw [after_0]; try iexact H0
  isplitl [H1]
  · iexists d1
    change _ ⊢ owns (c : Thread nD τ) (st0_1 t) fullShare (win0_1.fill (grid0.coords t) d1 (win0_1.cut (grid0.coords t) ((dats m 0 c).after 1 t)))
    rw [after_1, Window.cut_fill]; try iexact H1
  isplitl [H2]
  · iexists d2
    change _ ⊢ owns (c : Thread nD τ) (st0_2 t) fullShare (win0_2.fill (grid0.coords t) d2 (win0_2.cut (grid0.coords t) ((dats m 0 c).after 2 t)))
    rw [after_2, Window.cut_fill]; try iexact H2
  isplitl [H3]
  · iexists d3
    change _ ⊢ owns (c : Thread nD τ) (st0_3 t) fullShare (win0_3.fill (grid0.coords t) d3 (win0_3.cut (grid0.coords t) ((dats m 0 c).after 3 t)))
    rw [after_3, Window.cut_fill]; try iexact H3
  iexists prod m c t d1 d2 d3
  change _ ⊢ owns (c : Thread nD τ) (st0_4 t) fullShare (win0_4.fill (grid0.coords t) (prod m c t d1 d2 d3) (win0_4.cut (grid0.coords t) ((dats m 0 c).after 4 t)))
  rw [after_4, cut_prod m c t pad d1 pad d2 pad d3, Window.fill_cut]; try iexact H4

set_option backward.isDefEq.respectTransparency.types false in
set_option maxHeartbeats 800000 in
/-- The run: it ends with every array at what the forty write-backs and the host operations around them left, and every
    semaphore counter at zero. -/
theorem run : θ_run defs (onTc (τ := τ) (main (F := Ideal))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)
    (Q' := _) (hQ' := fun r h => h)

end Cert.KIBody

end
-- ==== Proof.KIArray.lean ====
/- What the idealized kernel returns: the blocks written back make up the whole product, entry by entry in terms of the
   program's arguments. -/
module

public import proofs.«01_k».proof.Proof.KIBody
public import Idealize.ShloMosaic.Lib.Claim

@[expose] public section

set_option maxRecDepth 16384

noncomputable section

namespace Cert.KIArray

open Cert.KernelIdeal Cert.KernelIdeal.Gen Cert.Spec Cert.KIBody
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- The program's arguments: activations, packed weights, scales and zero points. -/
abbrev argX (c : Dev nD) : FVec Ideal S24x1x7936 .bf16 := m ((c.tc : Thread nD τ).loc main_arg0)
abbrev argW (c : Dev nD) : IVec S10112x3968 8 := m ((c.tc : Thread nD τ).loc main_arg1)
abbrev argS (c : Dev nD) : FVec Ideal S10112x62 .bf16 := m ((c.tc : Thread nD τ).loc main_arg2)
abbrev argZ (c : Dev nD) : IVec S10112x62 8 := m ((c.tc : Thread nD τ).loc main_arg3)

/-! ## The arrays the kernel reads -/

/-- The activations with their unit axis dropped. -/
theorem entry_x (c : Dev nD) (b : Fin 24) (k : Fin 7936) :
    (V m c main_v0 : FVec Ideal S24x7936 .bf16) (ix2 b k) = argX m c (ix3 b (0 : Fin 1) k) := by
  have e : (V m c main_v0 : FVec Ideal S24x7936 .bf16) = shapeCast S24x7936 (argX m c) shapeCasts_S24x1x7936_S24x7936 := by
    show StableHlo.after (List.flatten [hostOps0]) (fun b => m (c, b)) (Proc.devRef .tc main_v0) = _
    simp only [hostOps0, List.flatten_cons, List.flatten_nil, List.append_nil, List.cons_append, List.nil_append]
    after_results <;> rfl
  rw [e]
  exact shapeCast_apply _ _ _ _ (by
    rw [Shape.rowMajor_val_three, Shape.rowMajor_val_two]
    show (b.val * 1 + 0) * 7936 + k.val = b.val * 7936 + k.val
    omega)

/-- The scales transposed. -/
theorem entry_s (c : Dev nD) (g : Fin 62) (o : Fin 10112) :
    (V m c main_v1 : FVec Ideal S62x10112 .bf16) (ix2 g o) = argS m c (ix2 o g) := by
  have e : (V m c main_v1 : FVec Ideal S62x10112 .bf16) = transpose S62x10112 [1, 0] (argS m c) transposes_S10112x62_S62x10112_1_0 := by
    show StableHlo.after (List.flatten [hostOps0]) (fun b => m (c, b)) (Proc.devRef .tc main_v1) = _
    simp only [hostOps0, List.flatten_cons, List.flatten_nil, List.append_nil, List.cons_append, List.nil_append]
    after_results <;> rfl
  rw [e]
  exact transpose_apply _ _ _ _ _ (fun a => match a with | ⟨0, _⟩ => rfl | ⟨1, _⟩ => rfl)

/-- The zero points transposed and read as numbers. -/
theorem entry_z (c : Dev nD) (g : Fin 62) (o : Fin 10112) :
    (V m c main_v4 : FVec Ideal S62x10112 .bf16) (ix2 g o) = byte (argZ m c (ix2 o g)) := by
  have e : (V m c main_v4 : FVec Ideal S62x10112 .bf16)
      = (sitofp .bf16 (extui 32 (transpose S62x10112 [1, 0] (argZ m c) transposes_S10112x62_S62x10112_1_0) natLt_8_32) : FVec Ideal S62x10112 .bf16) := by
    show StableHlo.after (List.flatten [hostOps0]) (fun b => m (c, b)) (Proc.devRef .tc main_v4) = _
    simp only [hostOps0, List.flatten_cons, List.flatten_nil, List.append_nil, List.cons_append, List.nil_append]
    after_results <;> rfl
  rw [e, sitofp_wide]
  exact congrArg byte (transpose_apply _ _ _ _ _ (fun a => match a with | ⟨0, _⟩ => rfl | ⟨1, _⟩ => rfl))

/-! ## Where each block lies -/

/-- Block `t` of the result: it starts at column `256 t` and its part inside the array is 256 columns wide, or what is
    left of the array. -/
theorem place4 : ∀ t : Fin grid0.N, win0_4.index t 0 = 0 ∧ win0_4.index t 1 = t.val
    ∧ win0_4.xsize (grid0.coords t) 0 = 24 ∧ win0_4.xsize (grid0.coords t) 1 = min 256 (10112 - 256 * t.val) := by decide +kernel
/-- The other windows: the activations whole, and block `t` of the weights' rows, of the scales' and of the zero points'
    columns. -/
theorem place0 : ∀ t : Fin grid0.N, win0_0.index t 0 = 0 ∧ win0_0.index t 1 = 0 := by decide +kernel
theorem place1 : ∀ t : Fin grid0.N, win0_1.index t 0 = t.val ∧ win0_1.index t 1 = 0 := by decide +kernel
theorem place2 : ∀ t : Fin grid0.N, win0_2.index t 0 = 0 ∧ win0_2.index t 1 = t.val := by decide +kernel
theorem place3 : ∀ t : Fin grid0.N, win0_3.index t 0 = 0 ∧ win0_3.index t 1 = t.val := by decide +kernel

/-- The activations' block is the whole array. -/
theorem xblk_apply (c : Dev nD) (t : Fin cfg0.N) (b : Fin 24) (k : Fin 7936) :
    xblk m c t (ix2 b k) = argX m c (ix3 b (0 : Fin 1) k) := by
  rw [← entry_x m c b k]
  show (V m c main_v0 : FVec Ideal S24x7936 .bf16) _ = _
  refine congrArg (V m c main_v0 : FVec Ideal S24x7936 .bf16) ?_
  funext a; apply Fin.ext
  match a with
  | ⟨0, _⟩ =>
    show win0_0.index t 0 * 24 + 1 * b.val = b.val
    rw [(place0 t).1]; omega
  | ⟨1, _⟩ =>
    show win0_0.index t 1 * 7936 + 1 * k.val = k.val
    rw [(place0 t).2]; omega

/-- Row `j` of block `t` of the weights is row `256 t + j` of the array, where that is inside it. -/
theorem wblk_apply (c : Dev nD) (t : Fin cfg0.N) (d) (j : Fin 256) (q : Fin 3968) (o : Fin 10112) (ho : o.val = t.val * 256 + j.val)
    (hj : j.val < win0_4.xsize (grid0.coords t) 1) : wblk m c t d (ix2 j q) = argW m c (ix2 o q) := by
  have hm : win0_1.moved (grid0.coords t) (ix2 j q) = true :=
    (win0_1.moved_iff _ _).mpr (fun a => match a with | ⟨0, _⟩ => hj | ⟨1, _⟩ => q.isLt)
  show win0_1.fill (grid0.coords t) d (iblk m c 1 t) (ix2 j q) = _
  unfold Window.fill
  rw [dif_pos hm, show argW m c = (V m c main_arg1 : IVec S10112x3968 8) from (V_main_arg1 m c).symm]
  show (V m c main_arg1 : IVec S10112x3968 8) _ = _
  refine congrArg (V m c main_arg1 : IVec S10112x3968 8) ?_
  funext a; apply Fin.ext
  match a with
  | ⟨0, _⟩ =>
    show win0_1.index t 0 * 256 + 1 * j.val = o.val
    rw [(place1 t).1]; omega
  | ⟨1, _⟩ =>
    show win0_1.index t 1 * 3968 + 1 * q.val = q.val
    rw [(place1 t).2]; omega

/-- Column `j` of block `t` of the scales is row `256 t + j` of the argument. -/
theorem sblk_apply (c : Dev nD) (t : Fin cfg0.N) (d) (g : Fin 62) (j : Fin 256) (o : Fin 10112) (ho : o.val = t.val * 256 + j.val)
    (hj : j.val < win0_4.xsize (grid0.coords t) 1) : sblk m c t d (ix2 g j) = argS m c (ix2 o g) := by
  have hm : win0_2.moved (grid0.coords t) (ix2 g j) = true :=
    (win0_2.moved_iff _ _).mpr (fun a => match a with | ⟨0, _⟩ => g.isLt | ⟨1, _⟩ => hj)
  show win0_2.fill (grid0.coords t) d (iblk m c 2 t) (ix2 g j) = _
  unfold Window.fill
  rw [dif_pos hm, ← entry_s m c g o]
  show (V m c main_v1 : FVec Ideal S62x10112 .bf16) _ = _
  refine congrArg (V m c main_v1 : FVec Ideal S62x10112 .bf16) ?_
  funext a; apply Fin.ext
  match a with
  | ⟨0, _⟩ =>
    show win0_2.index t 0 * 62 + 1 * g.val = g.val
    rw [(place2 t).1]; omega
  | ⟨1, _⟩ =>
    show win0_2.index t 1 * 256 + 1 * j.val = o.val
    rw [(place2 t).2]; omega

/-- Column `j` of block `t` of the zero points is row `256 t + j` of the argument, read as numbers. -/
theorem zblk_apply (c : Dev nD) (t : Fin cfg0.N) (d) (g : Fin 62) (j : Fin 256) (o : Fin 10112) (ho : o.val = t.val * 256 + j.val)
    (hj : j.val < win0_4.xsize (grid0.coords t) 1) : zblk m c t d (ix2 g j) = byte (argZ m c (ix2 o g)) := by
  have hm : win0_3.moved (grid0.coords t) (ix2 g j) = true :=
    (win0_3.moved_iff _ _).mpr (fun a => match a with | ⟨0, _⟩ => g.isLt | ⟨1, _⟩ => hj)
  show win0_3.fill (grid0.coords t) d (iblk m c 3 t) (ix2 g j) = _
  unfold Window.fill
  rw [dif_pos hm, ← entry_z m c g o]
  show (V m c main_v4 : FVec Ideal S62x10112 .bf16) _ = _
  refine congrArg (V m c main_v4 : FVec Ideal S62x10112 .bf16) ?_
  funext a; apply Fin.ext
  match a with
  | ⟨0, _⟩ =>
    show win0_3.index t 0 * 62 + 1 * g.val = g.val
    rw [(place3 t).1]; omega
  | ⟨1, _⟩ =>
    show win0_3.index t 1 * 256 + 1 * j.val = o.val
    rw [(place3 t).2]; omega

/-! ## The whole product -/

/-- The product, one entry per activation row and output column. -/
def product (c : Dev nD) : FVec Ideal S24x10112 .bf16 := fun i =>
  out (fun b k => argX m c (ix3 b (0 : Fin 1) k)) (fun o q => argW m c (ix2 o q)) (fun o g => argS m c (ix2 o g)) (fun o g => argZ m c (ix2 o g)) (i 0) (i 1)

/-- A block of the body's product, where it lies inside the array, is that block of the whole product. -/
theorem prod_eq (c : Dev nD) (t : Fin cfg0.N) (d1 d2 d3) (b : Fin 24) (j : Fin 256) (o : Fin 10112) (ho : o.val = t.val * 256 + j.val)
    (hj : j.val < win0_4.xsize (grid0.coords t) 1) : prod m c t d1 d2 d3 (ix2 b j) = product m c (ix2 b o) := by
  rw [prod_apply]
  show _ = ∑ k : Fin 7936, argX m c (ix3 b (0 : Fin 1) k)
    * weight (argW m c (ix2 o (half k))) (k.val % 2) (byte (argZ m c (ix2 o (grp k)))) (argS m c (ix2 o (grp k)))
  refine Finset.sum_congr rfl fun k _ => ?_
  rw [xblk_apply, wblk_apply m c t d1 j (half k) o ho hj, sblk_apply m c t d2 (grp k) j o ho hj, zblk_apply m c t d3 (grp k) j o ho hj]

/-- Which columns of the result block `t` covers. -/
theorem mem_blk (t : Fin cfg0.N) (i : S24x10112.Idx) (h : t.val = (i 1).val / 256) : i ∈ (win0_4.blk t).view.set := by
  show i ∈ ((View.whole main_v5).slice (win0_4.rect t)).set
  rw [View.set_slice_whole, Rect.mem_set_unit]
  obtain ⟨p0, p1, x0, x1⟩ := place4 t
  have h0 : (i 0).val < 24 := (i 0).isLt
  have h1 : (i 1).val < 10112 := (i 1).isLt
  intro a
  match a with
  | ⟨0, _⟩ =>
    change win0_4.index t 0 * 24 ≤ (i 0).val ∧ (i 0).val < win0_4.index t 0 * 24 + win0_4.xsize (grid0.coords t) 0
    rw [p0, x0]; omega
  | ⟨1, _⟩ =>
    change win0_4.index t 1 * 256 ≤ (i 1).val ∧ (i 1).val < win0_4.index t 1 * 256 + win0_4.xsize (grid0.coords t) 1
    rw [p1, x1]; omega

/-- The array the kernel writes ends at the whole product. -/
theorem array_eq (c : Dev nD) : (dats m 0 c).arrAt 4 cfg0.N = product m c := by
  refine Dat.arrAt_eq_of_cover (dat := dats m 0 c) 4 (product m c) (fun t _ => ?_) (fun i => ?_)
  · show win0_4.cut (grid0.coords t) ((dats m 0 c).after 4 t) = _
    rw [after_4]
    funext y
    show prod m c t pad pad pad (win0_4.xinj (grid0.coords t) y) = product m c ((win0_4.blk t).view.emb y)
    obtain ⟨p0, p1, x0, x1⟩ := place4 t
    have hy : (y 1).val < win0_4.xsize (grid0.coords t) 1 := (y 1).isLt
    have hy0 : (y 0).val < 24 := x0 ▸ (y 0).isLt
    have ht : t.val < 40 := t.isLt
    have hj : (y 1).val < 256 := by rw [x1] at hy; omega
    have ho : t.val * 256 + (y 1).val < 10112 := by rw [x1] at hy; omega
    have e1 : win0_4.xinj (grid0.coords t) y = ix2 (⟨(y 0).val, hy0⟩ : Fin 24) (⟨(y 1).val, hj⟩ : Fin 256) := by
      funext a; apply Fin.ext
      match a with
      | ⟨0, _⟩ => rfl
      | ⟨1, _⟩ => rfl
    have e2 : (win0_4.blk t).view.emb y = ix2 (⟨(y 0).val, hy0⟩ : Fin 24) (⟨t.val * 256 + (y 1).val, ho⟩ : Fin 10112) := by
      funext a; apply Fin.ext
      match a with
      | ⟨0, _⟩ =>
        show win0_4.index t 0 * 24 + 1 * (y 0).val = (y 0).val
        rw [p0]; omega
      | ⟨1, _⟩ =>
        show win0_4.index t 1 * 256 + 1 * (y 1).val = t.val * 256 + (y 1).val
        rw [p1]; omega
    rw [e1, e2]
    exact prod_eq m c t _ _ _ _ _ _ rfl hy
  · have h1 : ((i : S24x10112.Idx) 1).val < 10112 := (i 1).isLt
    exact ⟨⟨((i : S24x10112.Idx) 1).val / 256, show _ < 40 by omega⟩, flush0_4 _, mem_blk _ i rfl⟩

/-- The array the kernel returns: the product with its unit axis put back. -/
def result (c : Dev nD) : FVec Ideal S24x1x10112 .bf16 := fun i =>
  out (fun b k => argX m c (ix3 b (0 : Fin 1) k)) (fun o q => argW m c (ix2 o q)) (fun o g => argS m c (ix2 o g)) (fun o g => argZ m c (ix2 o g)) (i 0) (i 2)

/-- The host operation after the kernel leaves `result` in the returned array. -/
theorem returned (c : Dev nD) : (Pipeline.afterTail₀ cfgs (dats m) 0 (V0 m) [hostOps1] c main_v6 : FVec Ideal S24x1x10112 .bf16) = result m c := by
  have e : (Pipeline.afterTail₀ cfgs (dats m) 0 (V0 m) [hostOps1] c main_v6 : FVec Ideal S24x1x10112 .bf16)
      = shapeCast S24x1x10112 (product m c) shapeCasts_S24x10112_S24x1x10112 := by
    have h5 : Pipeline.withArrays spec0 c (V0 m c) (fun w => (dats m 0 c).arrAt w cfg0.N) (Proc.devRef .tc main_v5) = product m c :=
      (Pipeline.withArrays_arr spec0 (by decide) c (V0 m c) (fun w => (dats m 0 c).arrAt w cfg0.N) 4).trans (array_eq m c)
    rw [← h5]
    unfold Pipeline.afterTail₀
    simp only [hostOps1, List.flatten_cons, List.flatten_nil, List.append_nil]
    after_results <;> rfl
  rw [e]
  funext i
  obtain ⟨b, u, o, rfl⟩ : ∃ (b : Fin 24) (u : Fin 1) (o : Fin 10112), i = ix3 b u o := ⟨i 0, i 1, i 2, eq_ix3 i⟩
  obtain rfl : u = 0 := Subsingleton.elim _ _
  exact (shapeCast_apply (product m c) _ _ (ix2 b o) (by
    rw [Shape.rowMajor_val_three, Shape.rowMajor_val_two]
    show b.val * 10112 + o.val = (b.val * 1 + 0) * 10112 + o.val
    omega)).trans rfl

/-- THE KERNEL'S RUN: it returns `result`, leaves its arguments as they were and every semaphore counter at zero. -/
theorem run : θ_run defs (onTc (τ := τ) (main (F := Ideal))) ⟨m, fun _ => 0, ρ⟩ fun r => (∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c =>
    ⟨((h.1 c).2 main_v6 (Pipeline.mem_restRefs_of main_v6 (by decide) (by decide))).trans (returned m c),
     ((h.1 c).2 main_arg0 (Pipeline.mem_restRefs_of main_arg0 (by decide) (by decide))).trans (W_main_arg0 m (dats m) c),
     ((h.1 c).1 1).trans (((dats m 0 c).arrAt_in 1 rfl _).trans ((A_eq m c 1).trans (V_main_arg1 m c))),
     ((h.1 c).2 main_arg2 (Pipeline.mem_restRefs_of main_arg2 (by decide) (by decide))).trans (W_main_arg2 m (dats m) c),
     ((h.1 c).2 main_arg3 (Pipeline.mem_restRefs_of main_arg3 (by decide) (by decide))).trans (W_main_arg3 m (dats m) c)⟩, h.2⟩)
    (KIBody.run m ρ)

end Cert.KIArray

end
-- ==== Proof.RefValue.lean ====
/- What the reference computes, entry by entry, over the extended reals. -/
module

public import proofs.«01_k».proof.Proof.KIValue
public import proofs.«01_k».proof.Proof.Gen.ReferenceIdeal.Run

@[expose] public section

noncomputable section

open scoped BigOperators

namespace Cert.RefValue

open Cert.ReferenceIdeal Cert.Spec
open Idealize.SL.Sem Idealize.ShloMosaic Idealize.ShloMosaic.TcCoe Idealize.ShloMosaic.ValueIdx

/-- Two codes of a byte side by side, read as one row of codes. -/
theorem unpair_apply {α : Type} (x : S10112x3968x2.Idx → α) (h : S10112x3968x2.ShapeCasts S10112x7936) (o : Fin 10112) (k : Fin 7936) :
    shapeCast S10112x7936 x h (ix2 o k) = x (ix3 o (half k) (⟨k.val % 2, Nat.mod_lt _ (by decide)⟩ : Fin 2)) :=
  shapeCast_apply x h _ _ (by
    rw [Shape.rowMajor_val_three, Shape.rowMajor_val_two]
    show (o.val * 3968 + k.val / 2) * 2 + k.val % 2 = o.val * 7936 + k.val
    omega)

/-- A row of codes laid out in groups. -/
theorem group_apply {α : Type} (x : S10112x7936.Idx → α) (h : S10112x7936.ShapeCasts S10112x62x128) (o : Fin 10112) (k : Fin 7936) :
    shapeCast S10112x62x128 x h (ix3 o (grp k) (⟨k.val % 128, Nat.mod_lt _ (by decide)⟩ : Fin 128)) = x (ix2 o k) :=
  shapeCast_apply x h _ _ (by
    rw [Shape.rowMajor_val_three, Shape.rowMajor_val_two]
    show o.val * 7936 + k.val = (o.val * 62 + k.val / 128) * 128 + k.val % 128
    omega)

/-- The groups laid back in one row. -/
theorem ungroup_apply {α : Type} (x : S10112x62x128.Idx → α) (h : S10112x62x128.ShapeCasts S10112x7936) (o : Fin 10112) (k : Fin 7936) :
    shapeCast S10112x7936 x h (ix2 o k) = x (ix3 o (grp k) (⟨k.val % 128, Nat.mod_lt _ (by decide)⟩ : Fin 128)) :=
  shapeCast_apply x h _ _ (by
    rw [Shape.rowMajor_val_three, Shape.rowMajor_val_two]
    show (o.val * 62 + k.val / 128) * 128 + k.val % 128 = o.val * 7936 + k.val
    omega)

/-- A trailing unit axis added by a broadcast. -/
theorem tail_apply {α : Type} (a b : Nat) (ha : a ≠ 1) (hb : b ≠ 1) (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) :=
  broadcastInDim_apply _ h x _ _ (fun c => match c with
    | ⟨0, _⟩ => (if_neg ha).symm | ⟨1, _⟩ => (if_neg hb).symm)

/-- One zero point or scale laid along its group of 128 codes. -/
theorem spread_apply {α : Type} (x : S10112x62x1.Idx → α) (h : S10112x62x1.BroadcastsInDim S10112x62x128 ![0, 1, 2])
    (o : Fin 10112) (g : Fin 62) (l : Fin 128) :
    broadcastInDim S10112x62x128 ![0, 1, 2] h x (ix3 o g l) = x (ix3 o g (0 : Fin 1)) :=
  broadcastInDim_apply _ h x _ _ (fun c => match c with | ⟨0, _⟩ => rfl | ⟨1, _⟩ => rfl | ⟨2, _⟩ => rfl)

/-- The two codes of every byte side by side. -/
theorem interleave_apply {α : Type} (x y : S10112x3968x1.Idx → α) (h : Shape.Concatenates [S10112x3968x1, S10112x3968x1] S10112x3968x2 2)
    (o : Fin 10112) (q : Fin 3968) (p : Fin 2) :
    concatenate S10112x3968x2 2 [⟨S10112x3968x1, x⟩, ⟨S10112x3968x1, y⟩] h (ix3 o q p)
      = if p.val = 0 then x (ix3 o q (0 : Fin 1)) else y (ix3 o q (0 : Fin 1)) := by
  split
  · next hp =>
    exact concatenate_pair_apply_left 2 x y h _ rfl _ (fun b => match b with
      | ⟨0, _⟩ => rfl | ⟨1, _⟩ => rfl | ⟨2, _⟩ => hp.symm)
  · next hp =>
    refine concatenate_pair_apply_right 2 x y h _ rfl rfl _ (fun b hb => match b, hb with
      | ⟨0, _⟩, _ => rfl | ⟨1, _⟩, _ => rfl | ⟨2, _⟩, hb => absurd rfl hb) ?_
    show 0 + 1 = p.val
    omega

/-- The reference's weight codes read as numbers. -/
theorem codes_apply (w : IVec S10112x3968 8) (o : Fin 10112) (k : Fin 7936) (e : 8 < 32)
    (hb : S10112x3968.BroadcastsInDim S10112x3968x1 ![0, 1]) (hs : S_.BroadcastsInDim S10112x3968 ![])
    (hc : Shape.Concatenates [S10112x3968x1, S10112x3968x1] S10112x3968x2 2)
    (h1 : S10112x3968x2.ShapeCasts S10112x7936) (h2 : S10112x7936.ShapeCasts S10112x62x128) :
    (sitofp .bf16 (shapeCast S10112x62x128 (shapeCast S10112x7936 (concatenate S10112x3968x2 2
      [⟨S10112x3968x1, broadcastInDim S10112x3968x1 ![0, 1] hb (andi (extui 32 w e) (broadcastInDim S10112x3968 ![] hs (constantI S_ 32 15#32)))⟩,
       ⟨S10112x3968x1, broadcastInDim S10112x3968x1 ![0, 1] hb (Host.shrsi (extui 32 w e) (broadcastInDim S10112x3968 ![] hs (constantI S_ 32 4#32)))⟩] hc) h1) h2)
      : FVec Ideal S10112x62x128 .bf16) (ix3 o (grp k) (⟨k.val % 128, Nat.mod_lt _ (by decide)⟩ : Fin 128))
      = code (w (ix2 o (half k))) (k.val % 2) := by
  show (((shapeCast S10112x62x128 _ h2 _ : BitVec 32).toInt : ℝ) : EReal) = _
  rw [group_apply, unpair_apply, interleave_apply]
  unfold code
  split
  · rw [tail_apply _ _ (by decide) (by decide)]
    show (((IntOp.andi ((w (ix2 o (half k))).setWidth 32) 15#32).toInt : ℝ) : EReal) = _
    rw [host_lo]; norm_cast
  · rw [tail_apply _ _ (by decide) (by decide)]
    show (((IntOp.shrsi .host ((w (ix2 o (half k))).setWidth 32) 4#32).toInt : ℝ) : EReal) = _
    rw [host_hi]; norm_cast

/-- The reference's contraction: entry `(b, u, o)` is the sum over `k` of the products. -/
theorem dot_apply (x : FVec Ideal S24x1x7936 .bf16) (y : FVec Ideal S10112x7936 .bf16) (b : Fin 24) (u : Fin 1) (o : Fin 10112) :
    Host.dotGeneral (F := Ideal) dot_S24x1x7936_S10112x7936_S24x1x10112_2_1_01_0_n_n none x y (ix3 b u o)
      = ∑ k : Fin 7936, x (ix3 b u k) * y (ix2 o k) := by
  show Ideal.matmul dot_S24x1x7936_S10112x7936_S24x1x10112_2_1_01_0_n_n x y (fun _ => 0) (ix3 b u o) = _
  unfold Ideal.matmul
  rw [zero_add, ← Equiv.sum_comp (contrEquiv1 dot_S24x1x7936_S10112x7936_S24x1x10112_2_1_01_0_n_n 7936 rfl rfl).symm]
  refine Finset.sum_congr rfl fun k _ => ?_
  have hk := contrEquiv1_symm_val dot_S24x1x7936_S10112x7936_S24x1x10112_2_1_01_0_n_n 7936 rfl rfl k
  have el : dot_S24x1x7936_S10112x7936_S24x1x10112_2_1_01_0_n_n.lhsIdx (ix3 b u o)
      ((contrEquiv1 dot_S24x1x7936_S10112x7936_S24x1x10112_2_1_01_0_n_n 7936 rfl rfl).symm k) = ix3 b u k := by
    funext a; apply Fin.ext
    match a with
    | ⟨0, _⟩ => rfl
    | ⟨1, _⟩ => rfl
    | ⟨2, _⟩ => exact hk
  have er : dot_S24x1x7936_S10112x7936_S24x1x10112_2_1_01_0_n_n.rhsIdx (ix3 b u o)
      ((contrEquiv1 dot_S24x1x7936_S10112x7936_S24x1x10112_2_1_01_0_n_n 7936 rfl rfl).symm k) = ix2 o k := by
    funext a; apply Fin.ext
    match a with
    | ⟨0, _⟩ => rfl
    | ⟨1, _⟩ => exact hk
  rw [el, er]

/-- The array the reference returns, from its arguments. -/
def result (x : FVec Ideal S24x1x7936 .bf16) (w : IVec S10112x3968 8) (s : FVec Ideal S10112x62 .bf16) (z : IVec S10112x62 8) :
    FVec Ideal S24x1x10112 .bf16 :=
  fun i => out (fun b k => x (ix3 b (0 : Fin 1) k)) (fun o q => w (ix2 o q)) (fun o g => s (ix2 o g)) (fun o g => z (ix2 o g)) (i 0) (i 2)

/-- THE REFERENCE'S RUN: it returns `result` of its arguments and leaves them as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.ReferenceIdeal.Value.run m ρ)
  funext i
  obtain ⟨b, u, o, rfl⟩ : ∃ (b : Fin 24) (u : Fin 1) (o : Fin 10112), i = ix3 b u o := ⟨i 0, i 1, i 2, eq_ix3 i⟩
  obtain rfl : u = 0 := Subsingleton.elim _ _
  rw [truncf_apply, dot_apply]
  unfold result out weight
  refine Finset.sum_congr rfl fun k _ => ?_
  rw [ungroup_apply, mulf_apply, subf_apply, codes_apply, spread_apply, spread_apply, tail_apply _ _ (by decide) (by decide),
    tail_apply _ _ (by decide) (by decide), sitofp_wide]

end Cert.RefValue

end
-- ==== Proof.lean ====
/- The certificate of the int4 weight-only linear layer. The kernel runs at any float values and leaves its arguments and
   semaphore counters as they were (Proof/KBody.lean); its idealization does too and returns one closed form of the
   arguments (Proof/KIArray.lean); the reference returns the same closed form (Proof/RefValue.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KBody
public import proofs.«01_k».proof.Proof.KIArray
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The kernel runs, its arguments end unchanged and every counter at zero. -/
theorem kernel_quiescent : Cert.quiescent_Kernel := fun m ρ _ => Cert.KBody.frame m ρ

/-- So does its idealization. -/
theorem ideal_quiescent : Cert.quiescent_KernelIdeal := fun m ρ _ =>
  (θ_run _ _ _).mono (fun _ h => ⟨fun c => (h.1 c).2, h.2⟩) (Cert.KIArray.run m ρ)

/-- So does the reference, which has no semaphore. -/
theorem reference_quiescent : Cert.quiescent_ReferenceIdeal := fun m ρ _ =>
  (θ_run _ _ _).mono (fun r h => ⟨fun c => (h c).2, sem_eq_zero_of_no_sems (by decide) r.2⟩) (Cert.RefValue.run m ρ)

/-- From the same arguments the idealized kernel and the reference return the same array. -/
theorem equal : Cert.algebraic_KernelIdeal_ReferenceIdeal := fun m ρ m' ρ' _ hm =>
  ⟨fun c => Cert.KIArray.result m c,
   (θ_run _ _ _).mono (fun _ h => h.1) (Cert.KIArray.run m ρ),
   (θ_run _ _ _).mono (fun _ h c => ⟨(h c).1.trans (by
      obtain ⟨h0, h1, h2, h3⟩ := hm c
      rw [h0, h1, h2, h3]; rfl), (h c).2⟩) (Cert.RefValue.run m' ρ')⟩

theorem claim : Cert.Claim := ⟨Cert.Kernel.Gen.facts, Cert.KernelIdeal.Gen.facts, Cert.ReferenceIdeal.Gen.facts,
  kernel_quiescent, ideal_quiescent, reference_quiescent, trivial, equal⟩

end Cert.Proof

end
